-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x768x576 : Shape := ⟨3, ![16, 768, 576]⟩
abbrev S8192x256 : Shape := ⟨2, ![8192, 256]⟩
abbrev S256x768 : Shape := ⟨2, ![256, 768]⟩
abbrev S256 : Shape := ⟨1, ![256]⟩
abbrev S768x256 : Shape := ⟨2, ![768, 256]⟩
abbrev S768 : Shape := ⟨1, ![768]⟩
abbrev S9216x256 : Shape := ⟨2, ![9216, 256]⟩
abbrev S_ : Shape := ⟨0, ![]⟩

class Facts : Prop where
  bcast_S_S16x768x576 : S_.BroadcastsInDim S16x768x576 (![] : Fin 0 → Fin S16x768x576.rank)
  reducesTo_S16x768x576_S_d0_1_2 : S16x768x576.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x768x576 .f32) (main_arg1 : FVec F S8192x256 .f32) (main_arg2 : FVec F S256x768 .f32) (main_arg3 : FVec F S256 .f32) (main_arg4 : FVec F S768x256 .f32) (main_arg5 : FVec F S768 .f32) (main_arg6 : FVec F S9216x256 .f32) : IVec S_ 1 :=
  let main_v0 : FVec F S16x768x576 .f32 := Host.absf main_arg0
  let main_cst : FVec F S_ .f32 := constant S_ .f32 0x7F800000#32
  let main_v1 : FVec F S16x768x576 .f32 := broadcastInDim S16x768x576 ![] bcast_S_S16x768x576 main_cst
  let main_v2 : IVec S16x768x576 1 := cmpf .olt main_v0 main_v1
  let main_c : IVec S_ 1 := constantI S_ 1 1#1
  let main_v3 : IVec S_ 1 := (fun x v => Host.reduce IntOp.andi x v reducesTo_S16x768x576_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x768x576 : Shape := ⟨3, ![16, 768, 576]⟩
abbrev S8192x256 : Shape := ⟨2, ![8192, 256]⟩
abbrev S256x768 : Shape := ⟨2, ![256, 768]⟩
abbrev S256 : Shape := ⟨1, ![256]⟩
abbrev S768x256 : Shape := ⟨2, ![768, 256]⟩
abbrev S768 : Shape := ⟨1, ![768]⟩
abbrev S9216x256 : Shape := ⟨2, ![9216, 256]⟩
abbrev S16x576x768 : Shape := ⟨3, ![16, 576, 768]⟩
abbrev S16x576x256 : Shape := ⟨3, ![16, 576, 256]⟩
abbrev S1x256 : Shape := ⟨2, ![1, 256]⟩
abbrev S1x768 : Shape := ⟨2, ![1, 768]⟩
abbrev S2x576x768 : Shape := ⟨3, ![2, 576, 768]⟩
abbrev S2x576x256 : Shape := ⟨3, ![2, 576, 256]⟩
abbrev S1x8192 : Shape := ⟨2, ![1, 8192]⟩
abbrev S1152x768 : Shape := ⟨2, ![1152, 768]⟩
abbrev S1152x256 : Shape := ⟨2, ![1152, 256]⟩
abbrev S1152 : Shape := ⟨1, ![1152]⟩
abbrev S1152x1 : Shape := ⟨2, ![1152, 1]⟩
abbrev S1024x256 : Shape := ⟨2, ![1024, 256]⟩
abbrev S1152x1024 : Shape := ⟨2, ![1152, 1024]⟩
abbrev S1x1024 : Shape := ⟨2, ![1, 1024]⟩

abbrev nBuf : Space → Nat
  | .hbm => 13
  | .vmem => 13
  | .smem => 0
  | _ => 0

abbrev bufTy : (tb : Table) → Fin (tcTables nBuf tb) → BufTy
  | .hbm, ⟨0, _⟩ => ⟨S16x768x576, .f32⟩
  | .hbm, ⟨1, _⟩ => ⟨S8192x256, .f32⟩
  | .hbm, ⟨2, _⟩ => ⟨S256x768, .f32⟩
  | .hbm, ⟨3, _⟩ => ⟨S256, .f32⟩
  | .hbm, ⟨4, _⟩ => ⟨S768x256, .f32⟩
  | .hbm, ⟨5, _⟩ => ⟨S768, .f32⟩
  | .hbm, ⟨6, _⟩ => ⟨S9216x256, .f32⟩
  | .hbm, ⟨7, _⟩ => ⟨S16x576x768, .f32⟩
  | .hbm, ⟨8, _⟩ => ⟨S16x576x256, .f32⟩
  | .hbm, ⟨9, _⟩ => ⟨S1x256, .f32⟩
  | .hbm, ⟨10, _⟩ => ⟨S1x768, .f32⟩
  | .hbm, ⟨11, _⟩ => ⟨S16x576x768, .f32⟩
  | .hbm, ⟨12, _⟩ => ⟨S16x768x576, .f32⟩
  | .local _ .vmem, ⟨0, _⟩ => ⟨S2x576x768, .f32⟩
  | .local _ .vmem, ⟨1, _⟩ => ⟨S2x576x768, .f32⟩
  | .local _ .vmem, ⟨2, _⟩ => ⟨S8192x256, .f32⟩
  | .local _ .vmem, ⟨3, _⟩ => ⟨S256x768, .f32⟩
  | .local _ .vmem, ⟨4, _⟩ => ⟨S1x256, .f32⟩
  | .local _ .vmem, ⟨5, _⟩ => ⟨S768x256, .f32⟩
  | .local _ .vmem, ⟨6, _⟩ => ⟨S1x768, .f32⟩
  | .local _ .vmem, ⟨7, _⟩ => ⟨S2x576x256, .f32⟩
  | .local _ .vmem, ⟨8, _⟩ => ⟨S2x576x256, .f32⟩
  | .local _ .vmem, ⟨9, _⟩ => ⟨S2x576x768, .f32⟩
  | .local _ .vmem, ⟨10, _⟩ => ⟨S2x576x768, .f32⟩
  | .local _ .vmem, ⟨11, _⟩ => ⟨S1x8192, .f32⟩
  | .local _ .vmem, ⟨12, _⟩ => ⟨S8192x256, .bf16⟩
  | _, _ => ⟨S16x768x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x576x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x576x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x768x576 : Shape := ⟨3, ![16, 768, 576]⟩
abbrev S8192x256 : Shape := ⟨2, ![8192, 256]⟩
abbrev S256x768 : Shape := ⟨2, ![256, 768]⟩
abbrev S256 : Shape := ⟨1, ![256]⟩
abbrev S768x256 : Shape := ⟨2, ![768, 256]⟩
abbrev S768 : Shape := ⟨1, ![768]⟩
abbrev S9216x256 : Shape := ⟨2, ![9216, 256]⟩
abbrev S16x576x768 : Shape := ⟨3, ![16, 576, 768]⟩
abbrev S16x576x256 : Shape := ⟨3, ![16, 576, 256]⟩
abbrev S1x1x256 : Shape := ⟨3, ![1, 1, 256]⟩
abbrev S_ : Shape := ⟨0, ![]⟩
abbrev S9216 : Shape := ⟨1, ![9216]⟩
abbrev S9216x1 : Shape := ⟨2, ![9216, 1]⟩
abbrev S256x8192 : Shape := ⟨2, ![256, 8192]⟩
abbrev S9216x8192 : Shape := ⟨2, ![9216, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S1x1x768 : Shape := ⟨3, ![1, 1, 768]⟩

abbrev nBuf : Space → Nat
  | .hbm => 85
  | .vmem => 0
  | .smem => 0
  | _ => 0

abbrev bufTy : (tb : Table) → Fin (tcTables nBuf tb) → BufTy
  | .hbm, ⟨0, _⟩ => ⟨S16x768x576, .f32⟩
  | .hbm, ⟨1, _⟩ => ⟨S8192x256, .f32⟩
  | .hbm, ⟨2, _⟩ => ⟨S256x768, .f32⟩
  | .hbm, ⟨3, _⟩ => ⟨S256, .f32⟩
  | .hbm, ⟨4, _⟩ => ⟨S768x256, .f32⟩
  | .hbm, ⟨5, _⟩ => ⟨S768, .f32⟩
  | .hbm, ⟨6, _⟩ => ⟨S9216x256, .f32⟩
  | .hbm, ⟨7, _⟩ => ⟨S16x576x768, .f32⟩
  | .hbm, ⟨8, _⟩ => ⟨S768x256, .f32⟩
  | .hbm, ⟨9, _⟩ => ⟨S16x576x256, .f32⟩
  | .hbm, ⟨10, _⟩ => ⟨S1x1x256, .f32⟩
  | .hbm, ⟨11, _⟩ => ⟨S16x576x256, .f32⟩
  | .hbm, ⟨12, _⟩ => ⟨S16x576x256, .f32⟩
  | .hbm, ⟨13, _⟩ => ⟨S9216x256, .f32⟩
  | .hbm, ⟨14, _⟩ => ⟨S9216x256, .f32⟩
  | .hbm, ⟨15, _⟩ => ⟨S_, .f32⟩
  | .hbm, ⟨16, _⟩ => ⟨S9216, .f32⟩
  | .hbm, ⟨17, _⟩ => ⟨S9216x1, .f32⟩
  | .hbm, ⟨18, _⟩ => ⟨S256x8192, .f32⟩
  | .hbm, ⟨19, _⟩ => ⟨S9216x8192, .f32⟩
  | .hbm, ⟨20, _⟩ => ⟨S_, .f32⟩
  | .hbm, ⟨21, _⟩ => ⟨S9216x8192, .f32⟩
  | .hbm, ⟨22, _⟩ => ⟨S9216x8192, .f32⟩
  | .hbm, ⟨23, _⟩ => ⟨S9216x8192, .f32⟩
  | .hbm, ⟨24, _⟩ => ⟨S9216x8192, .f32⟩
  | .hbm, ⟨25, _⟩ => ⟨S256x8192, .f32⟩
  | .hbm, ⟨26, _⟩ => ⟨S256x8192, .f32⟩
  | .hbm, ⟨27, _⟩ => ⟨S_, .f32⟩
  | .hbm, ⟨28, _⟩ => ⟨S8192, .f32⟩
  | .hbm, ⟨29, _⟩ => ⟨S1x8192, .f32⟩
  | .hbm, ⟨30, _⟩ => ⟨S9216x8192, .f32⟩
  | .hbm, ⟨31, _⟩ => ⟨S9216x8192, .f32⟩
  | .hbm, ⟨32, _⟩ => ⟨S9216x8192, .i32⟩
  | .hbm, ⟨33, _⟩ => ⟨S_, .f32⟩
  | .hbm, ⟨34, _⟩ => ⟨S_, .i32⟩
  | .hbm, ⟨35, _⟩ => ⟨S9216, .f32⟩
  | .hbm, ⟨36, _⟩ => ⟨S9216, .i32⟩
  | .hbm, ⟨37, _⟩ => ⟨S_, .i32⟩
  | .hbm, ⟨38, _⟩ => ⟨S9216, .i32⟩
  | .hbm, ⟨39, _⟩ => ⟨S9216, .i1⟩
  | .hbm, ⟨40, _⟩ => ⟨S_, .i32⟩
  | .hbm, ⟨41, _⟩ => ⟨S9216, .i32⟩
  | .hbm, ⟨42, _⟩ => ⟨S9216, .i32⟩
  | .hbm, ⟨43, _⟩ => ⟨S9216, .i32⟩
  | .hbm, ⟨44, _⟩ => ⟨S9216x1, .i32⟩
  | .hbm, ⟨45, _⟩ => ⟨S1, .i32⟩
  | .hbm, ⟨46, _⟩ => ⟨S_, .i32⟩
  | .hbm, ⟨47, _⟩ => ⟨S9216x1, .i32⟩
  | .hbm, ⟨48, _⟩ => ⟨S9216x1, .i1⟩
  | .hbm, ⟨49, _⟩ => ⟨S1x1, .i32⟩
  | .hbm, ⟨50, _⟩ => ⟨S9216x1, .i32⟩
  | .hbm, ⟨51, _⟩ => ⟨S9216x1, .i1⟩
  | .hbm, ⟨52, _⟩ => ⟨S9216x1, .i1⟩
  | .hbm, ⟨53, _⟩ => ⟨S_, .i1⟩
  | .hbm, ⟨54, _⟩ => ⟨S9216, .i1⟩
  | .hbm, ⟨55, _⟩ => ⟨S9216x256, .f32⟩
  | .hbm, ⟨56, _⟩ => ⟨S9216x256, .i1⟩
  | .hbm, ⟨57, _⟩ => ⟨S_, .f32⟩
  | .hbm, ⟨58, _⟩ => ⟨S9216x256, .f32⟩
  | .hbm, ⟨59, _⟩ => ⟨S9216x256, .f32⟩
  | .hbm, ⟨60, _⟩ => ⟨S9216x256, .f32⟩
  | .hbm, ⟨61, _⟩ => ⟨S9216x256, .f32⟩
  | .hbm, ⟨62, _⟩ => ⟨S_, .f32⟩
  | .hbm, ⟨63, _⟩ => ⟨S9216, .f32⟩
  | .hbm, ⟨64, _⟩ => ⟨S9216x1, .f32⟩
  | .hbm, ⟨65, _⟩ => ⟨S9216x1, .f32⟩
  | .hbm, ⟨66, _⟩ => ⟨S9216x256, .f32⟩
  | .hbm, ⟨67, _⟩ => ⟨S_, .f32⟩
  | .hbm, ⟨68, _⟩ => ⟨S9216, .f32⟩
  | .hbm, ⟨69, _⟩ => ⟨S9216x1, .f32⟩
  | .hbm, ⟨70, _⟩ => ⟨S9216x1, .f32⟩
  | .hbm, ⟨71, _⟩ => ⟨S_, .f32⟩
  | .hbm, ⟨72, _⟩ => ⟨S9216x1, .f32⟩
  | .hbm, ⟨73, _⟩ => ⟨S9216x1, .f32⟩
  | .hbm, ⟨74, _⟩ => ⟨S9216x1, .f32⟩
  | .hbm, ⟨75, _⟩ => ⟨S9216x256, .f32⟩
  | .hbm, ⟨76, _⟩ => ⟨S9216x256, .f32⟩
  | .hbm, ⟨77, _⟩ => ⟨S9216x256, .f32⟩
  | .hbm, ⟨78, _⟩ => ⟨S16x576x256, .f32⟩
  | .hbm, ⟨79, _⟩ => ⟨S256x768, .f32⟩
  | .hbm, ⟨80, _⟩ => ⟨S16x576x768, .f32⟩
  | .hbm, ⟨81, _⟩ => ⟨S1x1x768, .f32⟩
  | .hbm, ⟨82, _⟩ => ⟨S16x576x768, .f32⟩
  | .hbm, ⟨83, _⟩ => ⟨S16x576x768, .f32⟩
  | .hbm, ⟨84, _⟩ => ⟨S16x768x576, .f32⟩
  | _, _ => ⟨S16x768x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_cst : Ref sig .tc := ⟨.hbm, 33, rfl⟩
abbrev main_call0_c : Ref sig .tc := ⟨.hbm, 34, rfl⟩
abbrev main_call0_v1_0 : Ref sig .tc := ⟨.hbm, 35, rfl⟩
abbrev main_v22 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_3 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_4 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩

abbrev nD : Nat := 1
abbrev τ : Topo := Topo.v7x

variable {F : FTy → Type} [FloatOps F]
-- ==== Proof.KernelBlock.lean ====
/- What one grid point of the kernel leaves in its staging buffers, as functions of the blocks it reads: the two
   scratch arrays (the codebook and its squared norms, stored at the first point and read at every point) and the
   output block. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Block

open Idealize.ShloMosaic Idealize.ShloMosaic.TcCoe Idealize.SL.Sem
open Cert.KernelIdeal Cert.KernelIdeal.Gen

variable {F : FTy → Type} [FloatOps F]

/-- The 1024 codewords of the codebook from row `o` on. -/
abbrev rows (cb : Vec F S8192x256 .bf16) (o : ℕ) (h : ∀ a, (![o, 0] : Fin 2 → ℕ) a + S1024x256.size a ≤ S8192x256.size a) :
    Vec F S1024x256 .bf16 :=
  View.ld cb (Rect.unit (s := S8192x256) ![o, 0] S1024x256.size h)

/-- The squared norms of the 1024 codewords from position `o` on. -/
abbrev norms (cn : Vec F S1x8192 .f32) (o : ℕ) (h : ∀ a, (![0, o] : Fin 2 → ℕ) a + S1x1024.size a ≤ S1x8192.size a) :
    Vec F S1x1024 .f32 :=
  View.ld cn (Rect.unit (s := S1x8192) ![0, o] S1x1024.size h)

/-- The running minimum over the eight tiles of codewords, lane by lane. -/
def tilesMin (x : Vec F S2x576x768 .f32) (wi : Vec F S256x768 .f32) (bi : Vec F S1x256 .f32)
    (cn : Vec F S1x8192 .f32) (cb : Vec F S8192x256 .bf16) : FVec F S1152x1024 .f32 :=
  k0_pay9 (k0_pay6 x wi bi)
    (k0_pay7 x wi bi (rows cb 0 inb_S8192x256_S1024x256_0_0) (norms cn 0 inb_S1x8192_S1x1024_0_0)
      (rows cb 1024 inb_S8192x256_S1024x256_1024_0) (norms cn 1024 inb_S1x8192_S1x1024_0_1024))
    (k0_pay8 x wi bi (rows cb 2048 inb_S8192x256_S1024x256_2048_0)) (norms cn 2048 inb_S1x8192_S1x1024_0_2048)
    (rows cb 3072 inb_S8192x256_S1024x256_3072_0) (norms cn 3072 inb_S1x8192_S1x1024_0_3072)
    (rows cb 4096 inb_S8192x256_S1024x256_4096_0) (norms cn 4096 inb_S1x8192_S1x1024_0_4096)
    (rows cb 5120 inb_S8192x256_S1024x256_5120_0) (norms cn 5120 inb_S1x8192_S1x1024_0_5120)
    (rows cb 6144 inb_S8192x256_S1024x256_6144_0) (norms cn 6144 inb_S1x8192_S1x1024_0_6144)
    (rows cb 7168 inb_S8192x256_S1024x256_7168_0) (norms cn 7168 inb_S1x8192_S1x1024_0_7168)

/-- The output block a grid point computes from its input blocks and the two scratch arrays. -/
def outBlock (x : Vec F S2x576x768 .f32) (wi : Vec F S256x768 .f32) (bi : Vec F S1x256 .f32)
    (wo : Vec F S768x256 .f32) (bo : Vec F S1x768 .f32) (r : Vec F S2x576x256 .f32)
    (cn : Vec F S1x8192 .f32) (cb : Vec F S8192x256 .bf16) : Vec F S2x576x768 .f32 :=
  k0_pay1 (k0_pay4 x wi bi) (k0_pay5 x wi bi) (tilesMin x wi bi cn cb) r wo bo

variable (m : (ℓ : Loc nD τ sig) → Buf (Elt F) ℓ)

/-- The first point leaves in the first scratch array the squared norms of its codebook block. -/
theorem first_norms (c : Dev nD) (t : Fin cfg0.N) (h0 : t.val % 8 = 0) :
    (outsAt0 m c t.val t.isLt).2.1 = k0_pay3 (iblk m c 1 t) := by
  rw [outsAt0_A m c t h0]
  frame_out

/-- The first point leaves in the second scratch array its codebook block. -/
theorem first_codes (c : Dev nD) (t : Fin cfg0.N) (h0 : t.val % 8 = 0) :
    (outsAt0 m c t.val t.isLt).2.2 = k0_pay2 (iblk m c 1 t) := by
  rw [outsAt0_A m c t h0]
  frame_out

/-- The first point's output block is computed from its input blocks and the scratch arrays it has just stored. -/
theorem first_block (c : Dev nD) (t : Fin cfg0.N) (h0 : t.val % 8 = 0) :
    (outsAt0 m c t.val t.isLt).1 =
      outBlock (iblk m c 0 t) (iblk m c 2 t) (iblk m c 3 t) (iblk m c 4 t) (iblk m c 5 t) (iblk m c 6 t)
        (k0_pay3 (iblk m c 1 t)) (k0_pay2 (iblk m c 1 t)) := by
  rw [outsAt0_A m c t h0]
  frame_open
  simp (disch := decide) only [↓ View.readCov_skip, ↓ View.readCov_cons_toLoadRect, ↓ View.readCov_fill]
  frame_out
  rfl

/-- A later point's output block is computed from its input blocks and the scratch arrays the point before left. -/
theorem later_block (c : Dev nD) (t : Fin cfg0.N) (h0 : ¬ t.val % 8 = 0) (hp : t.val - 1 < cfg0.N) :
    (outsAt0 m c t.val t.isLt).1 =
      outBlock (iblk m c 0 t) (iblk m c 2 t) (iblk m c 3 t) (iblk m c 4 t) (iblk m c 5 t) (iblk m c 6 t)
        (outsAt0 m c (t.val - 1) hp).2.1 (outsAt0 m c (t.val - 1) hp).2.2 := by
  rw [outsAt0_B m c t h0]
  frame_out
  simp only [read_unread_whole]
  rfl

/-- A later point leaves the first scratch array as the point before left it. -/
theorem later_norms (c : Dev nD) (t : Fin cfg0.N) (h0 : ¬ t.val % 8 = 0) (hp : t.val - 1 < cfg0.N) :
    (outsAt0 m c t.val t.isLt).2.1 = (outsAt0 m c (t.val - 1) hp).2.1 := by
  rw [outsAt0_B m c t h0]
  rfl

/-- A later point leaves the second scratch array as the point before left it. -/
theorem later_codes (c : Dev nD) (t : Fin cfg0.N) (h0 : ¬ t.val % 8 = 0) (hp : t.val - 1 < cfg0.N) :
    (outsAt0 m c t.val t.isLt).2.2 = (outsAt0 m c (t.val - 1) hp).2.2 := by
  rw [outsAt0_B m c t h0]
  rfl

end Cert.KernelIdeal.Block

end
-- ==== Proof.Nearest.lean ====
/- The arithmetic of one row: the encoded vector, its distance to a codeword in the three forms in which the two
   programs compute it, and why the least score gives the residual of the nearest codeword. -/
module

public import Idealize.ShloMosaic.Lib.Pointwise

@[expose] public section

noncomputable section

namespace Cert.Nearest

open Idealize.ShloMosaic

/-- Entry `e` of the encoded row: the row times the encoder's weights, plus the bias. -/
def encode (x : Fin 768 → EReal) (w : Fin 256 → Fin 768 → EReal) (b : Fin 256 → EReal) (e : Fin 256) : EReal :=
  ∑ d, x d * w e d + b e

/-- The kernel's score of a codeword: minus two times the inner product, plus the codeword's squared norm. -/
def score (q c : Fin 256 → EReal) : EReal :=
  ∑ j, Ideal.ofBits .f32 0xC0000000#32 * q j * c j + ∑ j, c j * c j

/-- The reference's squared distance, expanded into norms and an inner product. -/
def distance (q c : Fin 256 → EReal) : EReal :=
  ∑ j, q j * q j - Ideal.ofBits .f32 0x40000000#32 * ∑ j, q j * c j + ∑ j, c j * c j

/-- The squared norm of the difference. -/
def residual (q c : Fin 256 → EReal) : EReal := ∑ j, (q j - c j) * (q j - c j)

/-- The kernel's residual: the row's squared norm plus the least score, cut off below at zero. -/
def leastResidual (q : Fin 256 → EReal) (C : Fin 8192 → Fin 256 → EReal) : EReal :=
  max (∑ j, q j * q j + Finset.univ.inf fun k => score q (C k)) 0

/-- One decoded entry: the encoded row moved by the random row scaled to the residual's norm, times a column of the
    decoder's weights, plus the bias. -/
def decode (s : EReal) (q r w : Fin 256 → EReal) (b : EReal) : EReal :=
  ∑ j, (q j + Ideal.div (Ideal.sqrt s) (Ideal.sqrt (∑ i, r i * r i) + Ideal.ofBits .f32 0x2B8CBCCC#32) * r j) * w j + b

/-- The word of the number two. -/
theorem ofBits_two : Ideal.ofBits .f32 0x40000000#32 = ((2 : ℝ) : EReal) := by
  simp [Ideal.ofBits, Ideal.ieee, -EReal.coe_mul]
  norm_num

/-- The word of the number minus two. -/
theorem ofBits_neg_two : Ideal.ofBits .f32 0xC0000000#32 = ((-2 : ℝ) : EReal) := by
  simp [Ideal.ofBits, Ideal.ieee, -EReal.coe_mul]
  norm_num

/-- The word of plus infinity. -/
theorem ofBits_top : Ideal.ofBits .f32 0x7F800000#32 = ⊤ := by
  simp [Ideal.ofBits, Ideal.ieee]

/-- A finite sum of real numbers is the same in the extended reals. -/
theorem coe_sum {n : ℕ} (f : Fin n → ℝ) : ∑ k, ((f k : ℝ) : EReal) = ((∑ k, f k : ℝ) : EReal) := by
  induction n with
  | zero => simp
  | succ n ih => rw [Fin.sum_univ_castSucc, Fin.sum_univ_castSucc, ih, EReal.coe_add]

/-- Encoding real numbers gives real numbers. -/
theorem encode_real (x : Fin 768 → EReal) (w : Fin 256 → Fin 768 → EReal) (b : Fin 256 → EReal)
    (hx : ∀ d, ∃ v : ℝ, x d = v) (hw : ∀ e d, ∃ v : ℝ, w e d = v) (hb : ∀ e, ∃ v : ℝ, b e = v) (e : Fin 256) :
    ∃ v : ℝ, encode x w b e = v := by
  choose x' hx using hx
  choose w' hw using hw
  choose b' hb using hb
  refine ⟨∑ d, x' d * w' e d + b' e, ?_⟩
  unfold encode
  simp only [hx, hw, hb, ← EReal.coe_mul, coe_sum, ← EReal.coe_add]

/-- The score of real vectors is a real number. -/
theorem score_coe (q c : Fin 256 → ℝ) :
    score (fun j => (q j : EReal)) (fun j => (c j : EReal)) = ((-2 * ∑ j, q j * c j + ∑ j, c j * c j : ℝ) : EReal) := by
  unfold score
  simp only [ofBits_neg_two, ← EReal.coe_mul, coe_sum, ← EReal.coe_add, Finset.mul_sum, mul_assoc]

/-- The expanded distance of real vectors is a real number. -/
theorem distance_coe (q c : Fin 256 → ℝ) :
    distance (fun j => (q j : EReal)) (fun j => (c j : EReal))
      = ((∑ j, q j * q j - 2 * ∑ j, q j * c j + ∑ j, c j * c j : ℝ) : EReal) := by
  unfold distance
  simp only [ofBits_two, ← EReal.coe_mul, coe_sum, ← EReal.coe_add, ← EReal.coe_sub]

/-- The residual of real vectors is a real number. -/
theorem residual_coe (q c : Fin 256 → ℝ) :
    residual (fun j => (q j : EReal)) (fun j => (c j : EReal)) = ((∑ j, (q j - c j) * (q j - c j) : ℝ) : EReal) := by
  unfold residual
  simp only [← EReal.coe_sub, ← EReal.coe_mul, coe_sum]

/-- The square of a difference, summed: the row's squared norm plus the score. -/
theorem sq_expand (q c : Fin 256 → ℝ) :
    ∑ j, (q j - c j) * (q j - c j) = ∑ j, q j * q j + (-2 * ∑ j, q j * c j + ∑ j, c j * c j) := by
  rw [Finset.mul_sum, ← Finset.sum_add_distrib, ← Finset.sum_add_distrib]
  exact Finset.sum_congr rfl fun j _ => by ring

/-- THE EQUATION OF ONE ROW. On real numbers the kernel's residual, taken from the least score, is the reference's
    residual at any codeword of least distance. -/
theorem leastResidual_eq (q : Fin 256 → EReal) (C : Fin 8192 → Fin 256 → EReal)
    (hq : ∀ j, ∃ v : ℝ, q j = v) (hC : ∀ k j, ∃ v : ℝ, C k j = v) (k₀ : Fin 8192)
    (hk : ∀ k, distance q (C k₀) ≤ distance q (C k)) :
    leastResidual q C = residual q (C k₀) := by
  choose q' hq using hq
  choose C' hC using hC
  obtain rfl : q = fun j => (q' j : EReal) := funext hq
  obtain rfl : C = fun k j => (C' k j : EReal) := funext fun k => funext (hC k)
  have hmin : (Finset.univ.inf fun k => score (fun j => (q' j : EReal)) fun j => (C' k j : EReal))
      = score (fun j => (q' j : EReal)) fun j => (C' k₀ j : EReal) := by
    refine le_antisymm (Finset.inf_le (Finset.mem_univ k₀)) (Finset.le_inf fun k _ => ?_)
    have h := hk k
    rw [distance_coe, distance_coe, EReal.coe_le_coe_iff] at h
    rw [score_coe, score_coe, EReal.coe_le_coe_iff]
    linarith
  unfold leastResidual
  rw [hmin, score_coe, residual_coe]
  simp only [← EReal.coe_mul, coe_sum, ← EReal.coe_add]
  rw [← sq_expand]
  exact max_eq_left (EReal.coe_nonneg.mpr (Finset.sum_nonneg fun j _ => mul_self_nonneg _))

/-- The fold of the minimum from plus infinity is the infimum. -/
theorem fold_min_eq_inf {n : ℕ} (f : Fin n → EReal) :
    Finset.univ.fold min (Ideal.ofBits .f32 0x7F800000#32) f = Finset.univ.inf f := by
  rw [ofBits_top]
  rfl

/-- The least of the eight values of `f` at `l`, `1024 + l`, …, `7168 + l`. -/
def laneMin (f : Fin 8192 → EReal) (l : Fin 1024) : EReal :=
  min (min (min (min (min (min (min (f ⟨l, by omega⟩) (f ⟨1024 + l, by omega⟩)) (f ⟨2048 + l, by omega⟩))
    (f ⟨3072 + l, by omega⟩)) (f ⟨4096 + l, by omega⟩)) (f ⟨5120 + l, by omega⟩)) (f ⟨6144 + l, by omega⟩))
    (f ⟨7168 + l, by omega⟩)

/-- The least over 1024 lanes of the least over eight tiles is the least over all 8192 positions. -/
theorem inf_tiles (f : Fin 8192 → EReal) : Finset.univ.inf (laneMin f) = Finset.univ.inf f := by
  refine le_antisymm (Finset.le_inf fun k _ => ?_) (Finset.le_inf fun l _ => ?_)
  · have hk := k.isLt
    have hl : (k : ℕ) % 1024 < 1024 := Nat.mod_lt _ (by norm_num)
    refine (Finset.inf_le (Finset.mem_univ (⟨(k : ℕ) % 1024, hl⟩ : Fin 1024))).trans ?_
    have hc : (k : ℕ) / 1024 = 0 ∨ (k : ℕ) / 1024 = 1 ∨ (k : ℕ) / 1024 = 2 ∨ (k : ℕ) / 1024 = 3 ∨ (k : ℕ) / 1024 = 4
        ∨ (k : ℕ) / 1024 = 5 ∨ (k : ℕ) / 1024 = 6 ∨ (k : ℕ) / 1024 = 7 := by omega
    have hat : ∀ o : ℕ, ∀ h : o + (k : ℕ) % 1024 < 8192, o = 1024 * ((k : ℕ) / 1024) → f ⟨o + (k : ℕ) % 1024, h⟩ = f k :=
      fun o h e => congrArg f (Fin.ext (by show o + (k : ℕ) % 1024 = k; omega))
    simp only [laneMin, min_le_iff]
    rcases hc with h | h | h | h | h | h | h | h
    · exact .inl (.inl (.inl (.inl (.inl (.inl (.inl (congrArg f (Fin.ext (by show (k : ℕ) % 1024 = k; omega))).le))))))
    · exact .inl (.inl (.inl (.inl (.inl (.inl (.inr (hat 1024 _ (by omega)).le))))))
    · exact .inl (.inl (.inl (.inl (.inl (.inr (hat 2048 _ (by omega)).le)))))
    · exact .inl (.inl (.inl (.inl (.inr (hat 3072 _ (by omega)).le))))
    · exact .inl (.inl (.inl (.inr (hat 4096 _ (by omega)).le)))
    · exact .inl (.inl (.inr (hat 5120 _ (by omega)).le))
    · exact .inl (.inr (hat 6144 _ (by omega)).le)
    · exact .inr (hat 7168 _ (by omega)).le
  · simp only [laneMin, le_min_iff]
    refine ⟨⟨⟨⟨⟨⟨⟨?_, ?_⟩, ?_⟩, ?_⟩, ?_⟩, ?_⟩, ?_⟩, ?_⟩ <;> exact Finset.inf_le (Finset.mem_univ _)

end Cert.Nearest

end
-- ==== Proof.KernelRow.lean ====
/- The kernel's output block at an index, over the ideal real numbers: the decoded entry whose residual is the least score
   over all codewords. -/
module

public import proofs.«01_k».proof.Proof.KernelBlock
public import proofs.«01_k».proof.Proof.Nearest

@[expose] public section

set_option maxRecDepth 16384

noncomputable section

namespace Cert.KernelIdeal.Block

open Idealize.ShloMosaic Idealize.ShloMosaic.TcCoe Idealize.SL.Sem
open Cert.KernelIdeal Cert.KernelIdeal.Gen Cert.Nearest

/-- The number of row `p` of batch `b` among the block's rows. -/
abbrev brow (b : Fin 2) (p : Fin 576) : Fin 1152 := ⟨(b : ℕ) * 576 + p, by omega⟩

/-- The stored codebook is the codebook. -/
theorem codes_at (C : Vec Ideal S8192x256 .f32) (k : Fin 8192) (j : Fin 256) :
    k0_pay2 (F := Ideal) C (ix2 k j) = C (ix2 k j) := by
  pointwise [k0_pay2]

/-- The stored norms are the codewords' squared norms. -/
theorem norms_at (C : Vec Ideal S8192x256 .f32) (k : Fin 8192) :
    k0_pay3 (F := Ideal) C (ix2 0 k) = ∑ j, C (ix2 k j) * C (ix2 k j) := by
  pointwise [k0_pay3]

/-- The block's encoded rows. -/
theorem encoded_at (x : Vec Ideal S2x576x768 .f32) (wi : Vec Ideal S256x768 .f32) (bi : Vec Ideal S1x256 .f32)
    (b : Fin 2) (p : Fin 576) (e : Fin 256) :
    k0_pay4 (F := Ideal) x wi bi (ix2 (brow b p) e)
      = encode (fun d => x (ix3 b p d)) (fun e d => wi (ix2 e d)) (fun e => bi (ix2 0 e)) e := by
  have hb : (⟨((b : ℕ) * 576 + p) / 576, by omega⟩ : Fin 2) = b := Fin.ext (by show ((b : ℕ) * 576 + p) / 576 = b; omega)
  have hp : (⟨((b : ℕ) * 576 + p) % 576, by omega⟩ : Fin 576) = p := Fin.ext (by show ((b : ℕ) * 576 + p) % 576 = p; omega)
  have hx : ∀ d : Fin 768, x (ix3 ⟨((b : ℕ) * 576 + p) / 576, by omega⟩ ⟨((b : ℕ) * 576 + p) % 576, by omega⟩ d)
      = x (ix3 b p d) := fun d => by rw [hb, hp]
  pointwise [k0_pay4, encode]
  exact congrArg (· + bi (ix2 0 e)) (Finset.sum_congr rfl fun d _ => congrArg (· * wi (ix2 e d)) (hx d))

/-- The squared norms of the block's encoded rows. -/
theorem square_at (x : Vec Ideal S2x576x768 .f32) (wi : Vec Ideal S256x768 .f32) (bi : Vec Ideal S1x256 .f32)
    (i : Fin 1152) :
    k0_pay5 (F := Ideal) x wi bi (ix2 i 0)
      = ∑ e, k0_pay4 (F := Ideal) x wi bi (ix2 i e) * k0_pay4 (F := Ideal) x wi bi (ix2 i e) := by
  pointwise [k0_pay5]

/-- Lane `l` of the running minimum is the least of the scores of the eight codewords `l, 1024 + l, …, 7168 + l`. -/
theorem tilesMin_at (x : Vec Ideal S2x576x768 .f32) (wi : Vec Ideal S256x768 .f32) (bi : Vec Ideal S1x256 .f32)
    (C : Vec Ideal S8192x256 .f32) (i : Fin 1152) (l : Fin 1024) :
    tilesMin (F := Ideal) x wi bi (k0_pay3 (F := Ideal) C) (k0_pay2 (F := Ideal) C) (ix2 i l)
      = laneMin (fun k => score (fun j => k0_pay4 (F := Ideal) x wi bi (ix2 i j)) fun j => C (ix2 k j)) l := by
  pointwise [tilesMin, k0_pay9, k0_pay8, k0_pay7, k0_pay6, rows, norms]
  simp only [norms_at, codes_at, laneMin, score]

/-- What the last step makes of the encoded rows, their squared norms, the lanes' least scores, the random rows and the
    decoder's weights. -/
theorem decoded_at (q : Vec Ideal S1152x256 .f32) (n : Vec Ideal S1152x1 .f32) (s : Vec Ideal S1152x1024 .f32)
    (r : Vec Ideal S2x576x256 .f32) (wo : Vec Ideal S768x256 .f32) (bo : Vec Ideal S1x768 .f32)
    (b : Fin 2) (p : Fin 576) (d : Fin 768) :
    k0_pay1 (F := Ideal) q n s r wo bo (ix3 b p d)
      = decode (max (n (ix2 (brow b p) 0)
            + Finset.fold min (Ideal.ofBits .f32 0x7F800000#32) (fun l => s (ix2 (brow b p) l)) Finset.univ) 0)
          (fun j => q (ix2 (brow b p) j)) (fun j => r (ix3 b p j)) (fun j => wo (ix2 d j)) (bo (ix2 0 d)) := by
  pointwise [k0_pay1, decode]

/-- THE OUTPUT BLOCK AT AN INDEX: the decoded entry of the row `q`, its residual the least over the whole codebook. -/
theorem outBlock_at (x : Vec Ideal S2x576x768 .f32) (wi : Vec Ideal S256x768 .f32) (bi : Vec Ideal S1x256 .f32)
    (wo : Vec Ideal S768x256 .f32) (bo : Vec Ideal S1x768 .f32) (r : Vec Ideal S2x576x256 .f32)
    (C : Vec Ideal S8192x256 .f32) (b : Fin 2) (p : Fin 576) (d : Fin 768) (q : Fin 256 → EReal)
    (hq : q = encode (fun d => x (ix3 b p d)) (fun e d => wi (ix2 e d)) (fun e => bi (ix2 0 e))) :
    outBlock (F := Ideal) x wi bi wo bo r (k0_pay3 (F := Ideal) C) (k0_pay2 (F := Ideal) C) (ix3 b p d)
      = decode (leastResidual q fun k j => C (ix2 k j)) q (fun j => r (ix3 b p j)) (fun j => wo (ix2 d j))
          (bo (ix2 0 d)) := by
  have he : (fun j => k0_pay4 (F := Ideal) x wi bi (ix2 (brow b p) j)) = q := by
    rw [hq]; exact funext fun j => encoded_at x wi bi b p j
  have he' : ∀ j, k0_pay4 (F := Ideal) x wi bi (ix2 (brow b p) j) = q j := fun j => congrFun he j
  have hs : max (k0_pay5 (F := Ideal) x wi bi (ix2 (brow b p) 0)
      + Finset.fold min (Ideal.ofBits .f32 0x7F800000#32)
          (fun l => tilesMin (F := Ideal) x wi bi (k0_pay3 (F := Ideal) C) (k0_pay2 (F := Ideal) C) (ix2 (brow b p) l)) Finset.univ) 0
      = leastResidual q fun k j => C (ix2 k j) := by
    rw [fold_min_eq_inf]
    simp only [tilesMin_at, square_at]
    rw [he]
    simp only [he']
    rw [leastResidual, ← inf_tiles]
  unfold outBlock
  rw [decoded_at, hs, he]

end Cert.KernelIdeal.Block

end
-- ==== Proof.KernelArray.lean ====
/- What the kernel's output array holds after the run, and the run itself: entry `(b, p, d)` is the decoded entry of row
   `p` of batch `b`, its residual the least over the whole codebook. -/
module

public import proofs.«01_k».proof.Proof.KernelRow
public import Idealize.ShloMosaic.Lib.Claim

@[expose] public section

set_option maxRecDepth 16384

noncomputable section

namespace Cert.KernelIdeal.Block

open Idealize.ShloMosaic Idealize.ShloMosaic.TcCoe Idealize.SL.Sem
open Cert.KernelIdeal Cert.KernelIdeal.Gen Cert.Nearest

/-- The blocks each point reads and writes: two batches of the input, the random rows and the output, and the whole of
    the codebook and the weights. -/
theorem idx : ∀ t : Fin cfg0.N,
    win0_0.index t = ![t.val, 0, 0] ∧ win0_1.index t = ![0, 0] ∧ win0_2.index t = ![0, 0] ∧ win0_3.index t = ![0, 0]
      ∧ win0_4.index t = ![0, 0] ∧ win0_5.index t = ![0, 0] ∧ win0_6.index t = ![t.val, 0, 0]
      ∧ win0_7.index t = ![t.val, 0, 0] ∧ t.val < 8 :=
  (by decide +kernel : ∀ t : Fin grid0.N, _)

variable (m : (ℓ : Loc nD τ sig) → Buf (Elt Ideal) ℓ)

/-- Every point's codebook block is the codebook. -/
theorem codebook_block (c : Dev nD) (t : Fin cfg0.N) : iblk m c 1 t = m ((c : Thread nD τ).loc main_arg1) := by
  blk_ext! [iblk, V, idx t]

/-- At every point the scratch arrays hold the codebook and its squared norms. -/
theorem scratch (c : Dev nD) (n : ℕ) (h : n < cfg0.N) :
    (outsAt0 m c n h).2.1 = k0_pay3 (F := Ideal) (m ((c : Thread nD τ).loc main_arg1))
      ∧ (outsAt0 m c n h).2.2 = k0_pay2 (F := Ideal) (m ((c : Thread nD τ).loc main_arg1)) := by
  induction n with
  | zero =>
    have h1 := first_norms m c ⟨0, h⟩ rfl
    have h2 := first_codes m c ⟨0, h⟩ rfl
    rw [codebook_block] at h1 h2
    exact ⟨h1, h2⟩
  | succ n ih =>
    have hN : cfg0.N = 8 := N_0
    have hm : ¬ (n + 1) % 8 = 0 := by omega
    have hp : n < cfg0.N := by omega
    exact ⟨(later_norms m c ⟨n + 1, h⟩ hm hp).trans (ih hp).1, (later_codes m c ⟨n + 1, h⟩ hm hp).trans (ih hp).2⟩

/-- The output block of every point, over its input blocks and the codebook. -/
theorem block (c : Dev nD) (t : Fin cfg0.N) :
    (outsAt0 m c t.val t.isLt).1
      = outBlock (F := Ideal) (iblk m c 0 t) (iblk m c 2 t) (iblk m c 3 t) (iblk m c 4 t) (iblk m c 5 t) (iblk m c 6 t)
          (k0_pay3 (F := Ideal) (m ((c : Thread nD τ).loc main_arg1)))
          (k0_pay2 (F := Ideal) (m ((c : Thread nD τ).loc main_arg1))) := by
  by_cases h0 : t.val % 8 = 0
  · rw [first_block m c t h0, codebook_block]
  · have hp : t.val - 1 < cfg0.N := lt_of_le_of_lt (Nat.sub_le _ _) t.isLt
    rw [later_block m c t h0 hp, (scratch m c _ hp).1, (scratch m c _ hp).2]

/-- The encoded row `p` of batch `b`. -/
def encodedRow (X : FVec Ideal S16x768x576 .f32) (Wi : FVec Ideal S256x768 .f32) (bi : FVec Ideal S256 .f32)
    (b : Fin 16) (p : Fin 576) : Fin 256 → EReal :=
  encode (fun d => X (ix3 b d p)) (fun e d => Wi (ix2 e d)) (fun e => bi (ix1 e))

/-- The output array over the arguments. -/
def array (X : FVec Ideal S16x768x576 .f32) (C : FVec Ideal S8192x256 .f32) (Wi : FVec Ideal S256x768 .f32)
    (bi : FVec Ideal S256 .f32) (Wo : FVec Ideal S768x256 .f32) (bo : FVec Ideal S768 .f32)
    (R : FVec Ideal S9216x256 .f32) (b : Fin 16) (p : Fin 576) (d : Fin 768) : EReal :=
  decode (leastResidual (encodedRow X Wi bi b p) fun k j => C (ix2 k j)) (encodedRow X Wi bi b p)
    (fun j => R (ix2 ⟨(b : ℕ) * 576 + p, by omega⟩ j)) (fun j => Wo (ix2 d j)) (bo (ix1 d))

/-- `array` over the memory's argument arrays, as an array over its indices. -/
def filled (c : Dev nD) : FVec Ideal S16x576x768 .f32 := fun i =>
  array (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

/-- The kernel's input operand is the input with its last two axes exchanged. -/
theorem V_input (c : Dev nD) :
    V m c main_v0 = transpose S16x576x768 [0, 2, 1] (m ((c : Thread nD τ).loc main_arg0)) transposes_S16x768x576_S16x576x768_0_2_1 := by
  show StableHlo.after hostOps0 (fun b => m (c, b)) (Proc.tc.devRef _) = _
  after_results
  try rfl

/-- The random rows, reshaped to one array per batch. -/
theorem V_random (c : Dev nD) :
    V m c main_v1 = shapeCast S16x576x256 (m ((c : Thread nD τ).loc main_arg6)) shapeCasts_S9216x256_S16x576x256 := by
  show StableHlo.after hostOps0 (fun b => m (c, b)) (Proc.tc.devRef _) = _
  after_results
  try rfl

/-- The encoder's bias as a row. -/
theorem V_bias_in (c : Dev nD) :
    V m c main_v2 = shapeCast S1x256 (m ((c : Thread nD τ).loc main_arg3)) shapeCasts_S256_S1x256 := by
  show StableHlo.after hostOps0 (fun b => m (c, b)) (Proc.tc.devRef _) = _
  after_results
  try rfl

/-- The decoder's bias as a row. -/
theorem V_bias_out (c : Dev nD) :
    V m c main_v3 = shapeCast S1x768 (m ((c : Thread nD τ).loc main_arg5)) shapeCasts_S768_S1x768 := by
  show StableHlo.after hostOps0 (fun b => m (c, b)) (Proc.tc.devRef _) = _
  after_results
  try rfl

/-- Point `t`'s input block at `(b, p, d)` is the input at `(2 t + b, d, p)`. -/
theorem input_at (c : Dev nD) (t : Fin cfg0.N) (b : Fin 2) (p : Fin 576) (d : Fin 768) (h : t.val * 2 + b < 16) :
    iblk m c 0 t (ix3 b p d) = m ((c : Thread nD τ).loc main_arg0) (ix3 ⟨t.val * 2 + b, h⟩ d p) := by
  have e : iblk m c 0 t (ix3 b p d) = V m c main_v0 (ix3 ⟨t.val * 2 + b, h⟩ p d) := by blk_ext [iblk, idx t]
  rw [e, V_input]
  pointwise

/-- Row `p` of batch `a` of the reshaped random rows. -/
theorem random_row (R : FVec Ideal S9216x256 .f32) (a : Fin 16) (p : Fin 576) (j : Fin 256) :
    shapeCast S16x576x256 R shapeCasts_S9216x256_S16x576x256 (ix3 a p j) = R (ix2 ⟨(a : ℕ) * 576 + p, by omega⟩ j) := by
  pointwise

/-- Point `t`'s block of random rows holds rows `p` of batches `2 t + b`. -/
theorem random_at (c : Dev nD) (t : Fin cfg0.N) (b : Fin 2) (p : Fin 576) (j : Fin 256) (h : t.val * 2 + b < 16) :
    iblk m c 6 t (ix3 b p j)
      = m ((c : Thread nD τ).loc main_arg6) (ix2 ⟨(t.val * 2 + b) * 576 + p, by omega⟩ j) := by
  have e : iblk m c 6 t (ix3 b p j) = V m c main_v1 (ix3 ⟨t.val * 2 + b, h⟩ p j) := by blk_ext [iblk, idx t]
  rw [e, V_random]
  exact random_row _ _ p j

/-- Every point's encoder bias block is the bias. -/
theorem bias_in_at (c : Dev nD) (t : Fin cfg0.N) (e : Fin 256) :
    iblk m c 3 t (ix2 0 e) = m ((c : Thread nD τ).loc main_arg3) (ix1 e) := by
  have h : iblk m c 3 t (ix2 0 e) = V m c main_v2 (ix2 0 e) := by blk_ext [iblk, idx t]
  rw [h, V_bias_in]
  pointwise

/-- Every point's decoder bias block is the bias. -/
theorem bias_out_at (c : Dev nD) (t : Fin cfg0.N) (d : Fin 768) :
    iblk m c 5 t (ix2 0 d) = m ((c : Thread nD τ).loc main_arg5) (ix1 d) := by
  have h : iblk m c 5 t (ix2 0 d) = V m c main_v3 (ix2 0 d) := by blk_ext [iblk, idx t]
  rw [h, V_bias_out]
  pointwise

/-- Every point's encoder weights are the whole array. -/
theorem weights_in (c : Dev nD) (t : Fin cfg0.N) : iblk m c 2 t = m ((c : Thread nD τ).loc main_arg2) := by
  blk_ext! [iblk, V, idx t]

/-- Every point's decoder weights are the whole array. -/
theorem weights_out (c : Dev nD) (t : Fin cfg0.N) : iblk m c 4 t = m ((c : Thread nD τ).loc main_arg4) := by
  blk_ext! [iblk, V, idx t]

/-- The output block of point `t` at `(b, p, d)` is the array at `(2 t + b, p, d)`. -/
theorem block_at (c : Dev nD) (t : Fin cfg0.N) (b : Fin 2) (p : Fin 576) (d : Fin 768) (h : t.val * 2 + b < 16) :
    (outsAt0 m c t.val t.isLt).1 (ix3 b p d) = filled m c (ix3 ⟨t.val * 2 + b, h⟩ p d) := by
  rw [block]
  refine (outBlock_at _ _ _ _ _ _ _ b p d
    (encodedRow (m ((c : Thread nD τ).loc main_arg0)) (m ((c : Thread nD τ).loc main_arg2))
      (m ((c : Thread nD τ).loc main_arg3)) ⟨t.val * 2 + b, h⟩ p) ?_).trans ?_
  · unfold encodedRow
    simp only [input_at m c t b p _ h, weights_in, bias_in_at]
  · rw [weights_out]
    simp only [random_at m c t b p _ h, bias_out_at]
    rfl

/-- THE OUTPUT ARRAY after the run. -/
theorem final (c : Dev nD) : (dats m 0 c).arrAt 7 cfg0.N = filled m c := by
  refine (dats m 0 c).arrAt_eq_of_covers 7 _ (by decide +kernel) fun t hf y => ?_
  have ht : t.val < 8 := (idx t).2.2.2.2.2.2.2.2
  blk_simp
  rw [after0_7]
  idx_vars y
  refine (block_at m c t y0 y1 y2 (by omega)).trans (congrArg (filled m c) ?_)
  blk_ext [idx t]

/-- The program's result over the memory: the output array with its last two axes exchanged. -/
def result (c : Dev nD) : FVec Ideal S16x768x576 .f32 :=
  transpose S16x768x576 [0, 2, 1] (filled m c) transposes_S16x576x768_S16x768x576_0_2_1

/-- The result at an index is the output array's entry with the last two coordinates exchanged. -/
theorem result_at (c : Dev nD) (b : Fin 16) (d : Fin 768) (p : Fin 576) :
    result m c (ix3 b d p)
      = array (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) b p d := by
  pointwise [result, filled]

/-- The array the program returns, read through its last operation. -/
theorem tail_result (c : Dev nD) :
    Pipeline.afterTail₀ cfgs (dats m) 0 (V0 m) [hostOps1] c main_v5 = result m c := by
  have h : Pipeline.withArrays cfg0.spec c (V0 m c) (fun w => (dats m 0 c).arrAt w cfg0.N) (Proc.devRef .tc main_v4)
      = filled m c :=
    (Pipeline.withArrays_arr cfg0.spec launch0.win.arr_inj c (V0 m c) _ 7).trans (final m c)
  show StableHlo.after hostOps1 (Pipeline.withArrays cfg0.spec c (V0 m c) fun w => (dats m 0 c).arrAt w cfg0.N)
    (Proc.devRef .tc main_v5) = _
  after_results
  rw [h]
  rfl

set_option maxHeartbeats 1600000 in
/-- THE KERNEL'S RUN: the result array is `result`, the argument arrays end unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from (Gen.unchanged m g) & (Gen.run_main m g)
  exact tail_result m c

end Cert.KernelIdeal.Block

end
-- ==== Proof.Argmin.lean ====
/- The reference's choice of a codeword: folding the pairs (value, position) of one row with the printed reducer ends at a
   position whose value is least. -/
module

public import proofs.«01_k».proof.Proof.Gen.ReferenceIdeal
public import Idealize.ShloMosaic.Lib.Pointwise
public import proofs.«01_k».proof.Proof.Nearest

@[expose] public section

noncomputable section

namespace Cert.ReferenceIdeal.Argmin

open Idealize.ShloMosaic Cert.ReferenceIdeal

/-- The reducer keeps one of its two pairs. -/
theorem reducer_mem (a b : EReal × BitVec 32) :
    reducer_argmin_f32_i32 (F := Ideal) a b = a ∨ reducer_argmin_f32_i32 (F := Ideal) a b = b := by
  obtain ⟨x, i⟩ := a
  obtain ⟨y, j⟩ := b
  by_cases hlt : x < y
  · left
    have hor : ∀ w : BitVec 1, 1#1 ||| w = 1#1 := by decide
    simp [reducer_argmin_f32_i32, Ideal.cmpf_def, Ideal.cmp, Scalar.select, IntOp.ori, IntOp.andi, hlt, hor]
  · by_cases heq : x = y
    · subst heq
      by_cases hv : IntOp.cmpi .slt i j = 1#1
      · left
        simp [reducer_argmin_f32_i32, Ideal.cmpf_def, Ideal.cmp, Scalar.select, IntOp.ori, IntOp.andi, hv]
      · right
        have h0 : IntOp.cmpi .slt i j = 0#1 := by
          generalize IntOp.cmpi .slt i j = w at hv
          revert hv; revert w; decide
        simp [reducer_argmin_f32_i32, Ideal.cmpf_def, Ideal.cmp, Scalar.select, IntOp.ori, IntOp.andi, h0]
    · right
      simp [reducer_argmin_f32_i32, Ideal.cmpf_def, Ideal.cmp, Scalar.select, IntOp.ori, IntOp.andi, hlt, heq]

/-- The pair it keeps has the smaller value. -/
theorem reducer_fst (a b : EReal × BitVec 32) :
    (reducer_argmin_f32_i32 (F := Ideal) a b).1 = min a.1 b.1 := by
  obtain ⟨x, i⟩ := a
  obtain ⟨y, j⟩ := b
  by_cases hlt : x < y
  · simp [reducer_argmin_f32_i32, Ideal.cmpf_def, Ideal.cmp, Scalar.select, IntOp.ori, hlt, min_eq_left hlt.le]
  · simp [reducer_argmin_f32_i32, Ideal.cmpf_def, Ideal.cmp, Scalar.select, IntOp.ori, hlt, min_eq_right (not_lt.mp hlt)]

/-- Folding a list of pairs ends at the starting pair or a pair of the list, and its value is at most every value met. -/
theorem fold_spec (L : List (EReal × BitVec 32)) (z : EReal × BitVec 32) :
    (L.foldl (reducer_argmin_f32_i32 (F := Ideal)) z = z ∨ L.foldl (reducer_argmin_f32_i32 (F := Ideal)) z ∈ L)
      ∧ (L.foldl (reducer_argmin_f32_i32 (F := Ideal)) z).1 ≤ z.1
      ∧ ∀ p ∈ L, (L.foldl (reducer_argmin_f32_i32 (F := Ideal)) z).1 ≤ p.1 := by
  induction L generalizing z with
  | nil => exact ⟨.inl rfl, le_rfl, fun p hp => absurd hp List.not_mem_nil⟩
  | cons a L ih =>
    obtain ⟨hm, hz, hl⟩ := ih (reducer_argmin_f32_i32 (F := Ideal) z a)
    rw [reducer_fst] at hz
    simp only [List.foldl_cons]
    refine ⟨?_, hz.trans (min_le_left _ _), fun p hp => ?_⟩
    · rcases hm with h | h
      · rw [h]
        rcases reducer_mem z a with h' | h'
        · exact .inl h'
        · exact .inr (by rw [h']; exact List.mem_cons_self)
      · exact .inr (List.mem_cons_of_mem _ h)
    · rcases List.mem_cons.mp hp with rfl | hp
      · exact hz.trans (min_le_right _ _)
      · exact hl p hp

/-- The row's answer, over any shapes: where some index of the row carries the word zero, the answer is the word carried
    by an index of the row whose value is least. -/
theorem argmin_spec {s t u : Shape} {axes : List (Fin s.rank)} (x : FVec Ideal s .f32) (y : s.Idx → BitVec 32)
    (ix : u.Idx → EReal) (iy : u.Idx → BitVec 32) (h : s.ReducesTo axes t) (hu : 0 < u.numel) (j : t.Idx)
    (hix : ∀ k, ix k = ⊤) (hiy : ∀ k, iy k = 0#32) (i₀ : s.Idx) (hi₀ : h.drop i₀ = j) (hy₀ : y i₀ = 0#32) :
    ∃ i : s.Idx, h.drop i = j
      ∧ (Host.argReduce (φ := .f32) (reducer_argmin_f32_i32 (F := Ideal)) x y ix iy h hu j).2 = y i
      ∧ ∀ i', h.drop i' = j → x i ≤ x i' := by
  rw [Ideal.argReduce_eq_reduce2, Host.reduce2_eq_foldl_fiber]
  obtain ⟨hm, hz, hl⟩ := fold_spec (Host.argReduceFiber x y h j) (ix (Shape.Idx.first hu), iy (Shape.Idx.first hu))
  have hmem : ∀ i, h.drop i = j → (x i, y i) ∈ Host.argReduceFiber x y h j := fun i hi => by
    unfold Host.argReduceFiber
    refine List.mem_map.mpr ⟨s.rowMajor i, List.mem_filter.mpr ⟨List.mem_finRange _, ?_⟩, ?_⟩ <;> simp [hi]
  rcases hm with e | e
  · refine ⟨i₀, hi₀, ?_, fun i' hi' => ?_⟩
    · rw [e, hy₀]; exact hiy _
    · have := hl _ (hmem i' hi')
      rw [e, hix] at this
      exact le_trans le_top this
  · obtain ⟨n, hn, hp⟩ := List.mem_map.mp (show _ ∈ List.map _ _ from e)
    have hd := of_decide_eq_true (List.mem_filter.mp hn).2
    refine ⟨s.rowMajor.symm n, hd, ?_, fun i' hi' => ?_⟩
    · rw [← hp]
    · have := hl _ (hmem i' hi')
      rw [← hp] at this
      exact this

/-- For every row of a matrix the number of a least entry, as the reference's reduction finds it: it carries each entry
    with its column's number, from the largest value and number 0. -/
def rowChoice {n m : ℕ} (h : (⟨2, ![n, m]⟩ : Shape).ReducesTo [1] ⟨1, ![n]⟩) (D : FVec Ideal ⟨2, ![n, m]⟩ .f32) :
    IVec ⟨1, ![n]⟩ 32 := fun j =>
  (Host.argReduce (reducer_argmin_f32_i32 (F := Ideal)) D (iotaInDim ⟨2, ![n, m]⟩ 32 1)
    (constant S_ .f32 0x7F800000#32) (constantI S_ 32 0#32) h Facts₀.h_S_ j).2

/-- The number found for a row is that of a column whose entry is least in the row. -/
theorem rowChoice_at {n m : ℕ} (hm : 0 < m) (h : (⟨2, ![n, m]⟩ : Shape).ReducesTo [1] ⟨1, ![n]⟩)
    (D : FVec Ideal ⟨2, ![n, m]⟩ .f32) (i : Fin n) :
    ∃ k : Fin m, rowChoice h D (ix1 i) = BitVec.ofNat 32 (k : ℕ) ∧ ∀ k' : Fin m, D (ix2 i k) ≤ D (ix2 i k') := by
  have hdrop : ∀ a b, h.drop (ix2 a b) = ix1 a := fun a b => by
    have hv : (h.drop (ix2 a b) 0 : ℕ) = a := Shape.ReducesTo.drop_apply_val h (ix2 a b) 0
    rw [eq_ix1 (h.drop (ix2 a b))]
    exact congrArg ix1 (Fin.ext hv)
  have hy : ∀ (a : Fin n) (b : Fin m), iotaInDim ⟨2, ![n, m]⟩ 32 1 (ix2 a b) = BitVec.ofNat 32 (b : ℕ) := fun _ _ => rfl
  obtain ⟨z, hz, hv, hl⟩ := argmin_spec D (iotaInDim ⟨2, ![n, m]⟩ 32 1) (constant (F := Ideal) S_ .f32 0x7F800000#32)
    (constantI S_ 32 0#32) h Facts₀.h_S_ (ix1 i) (fun _ => Cert.Nearest.ofBits_top) (fun _ => rfl) (ix2 i ⟨0, hm⟩)
    (hdrop _ _) (hy _ _)
  obtain ⟨a, b, rfl⟩ : ∃ (a : Fin n) (b : Fin m), z = ix2 a b := ⟨z 0, z 1, eq_ix2 z⟩
  have h0 : a = i := congrFun ((hdrop a b).symm.trans hz) 0
  subst h0
  exact ⟨b, hv.trans (hy a b), fun k' => hl _ (hdrop _ _)⟩

end Cert.ReferenceIdeal.Argmin

end
-- ==== Proof.Reference.lean ====
/- What the reference computes: its operations as one term over its arguments, and that term's entries as the row
   functions of `Proof/Nearest.lean`. -/
module

public import proofs.«01_k».proof.Proof.Nearest
public import proofs.«01_k».proof.Proof.Argmin
public import Idealize.ShloMosaic.Lib.Routing.Ops

@[expose] public section

set_option maxRecDepth 16384

noncomputable section

namespace Cert.ReferenceIdeal.Value

open Idealize.ShloMosaic Idealize.ShloMosaic.TcCoe Idealize.SL.Sem
open Cert.ReferenceIdeal Cert.ReferenceIdeal.Facts₀ Cert.Nearest

/-- The encoded rows. -/
def encoded (X : FVec Ideal S16x768x576 .f32) (W : FVec Ideal S256x768 .f32) (b : FVec Ideal S256 .f32) :
    FVec Ideal S9216x256 .f32 :=
  shapeCast S9216x256
    (addf
      (Host.dotGeneral dot_S16x576x768_S768x256_S16x576x256_2_0_01_1_n_n none
        (transpose S16x576x768 [0, 2, 1] X transposes_S16x768x576_S16x576x768_0_2_1)
        (transpose S768x256 [1, 0] W transposes_S256x768_S768x256_1_0))
      (broadcastInDim S16x576x256 ![0, 1, 2] bcast_S1x1x256_S16x576x256_0_1_2
        (broadcastInDim S1x1x256 ![2] bcast_S256_S1x1x256_2 b)))
    shapeCasts_S16x576x256_S9216x256

/-- The squared distance of every row to every codeword. -/
def distances (e : FVec Ideal S9216x256 .f32) (C : FVec Ideal S8192x256 .f32) : FVec Ideal S9216x8192 .f32 :=
  addf
    (subf
      (broadcastInDim S9216x8192 ![0, 1] bcast_S9216x1_S9216x8192_0_1
        (broadcastInDim S9216x1 ![0] bcast_S9216_S9216x1_0
          (Host.reduceAdd (mulf e e) (constant S_ .f32 0x00000000#32) reducesTo_S9216x256_S9216_d1 h_S_)))
      (mulf (broadcastInDim S9216x8192 ![] bcast_S_S9216x8192 (constant S_ .f32 0x40000000#32))
        (Host.dotGeneral dot_S9216x256_S256x8192_S9216x8192_1_0_0_1_n_n none e
          (transpose S256x8192 [1, 0] C transposes_S8192x256_S256x8192_1_0))))
    (broadcastInDim S9216x8192 ![0, 1] bcast_S1x8192_S9216x8192_0_1
      (broadcastInDim S1x8192 ![1] bcast_S8192_S1x8192_1
        (Host.reduceAdd
          (mulf (transpose S256x8192 [1, 0] C transposes_S8192x256_S256x8192_1_0)
            (transpose S256x8192 [1, 0] C transposes_S8192x256_S256x8192_1_0))
          (constant S_ .f32 0x00000000#32) reducesTo_S256x8192_S8192_d0 h_S_)))

/-- For every row the number of a codeword of least distance. -/
def choice (D : FVec Ideal S9216x8192 .f32) : IVec S9216 32 :=
  Argmin.rowChoice (n := 9216) (m := 8192) reducesTo_S9216x8192_S9216_d1 D

/-- Those numbers as row numbers of the codebook, a negative one counted from its end. -/
def rowNumbers (i : IVec S9216 32) : IVec S9216x1 32 :=
  broadcastInDim S9216x1 ![0] bcast_S9216_S9216x1_0
    (select (cmpi .slt i (broadcastInDim S9216 ![] bcast_S_S9216 (constantI S_ 32 0#32)))
      (addi i (broadcastInDim S9216 ![] bcast_S_S9216 (constantI S_ 32 8192#32))) i)

/-- The rows of the codebook at those numbers, a number outside it giving the filler. -/
def taken (C : FVec Ideal S8192x256 .f32) (s : IVec S9216x1 32) : FVec Ideal S9216x256 .f32 :=
  select
    (broadcastInDim S9216x256 ![0] bcast_S9216_S9216x256_0
      (Host.reduce IntOp.andi
        (andi (cmpi .sge s (broadcastInDim S9216x1 ![] bcast_S_S9216x1 (constantI S_ 32 0#32)))
          (cmpi .sle s
            (broadcastInDim S9216x1 ![0, 1] bcast_S1x1_S9216x1_0_1
              (broadcastInDim S1x1 ![1] bcast_S1_S1x1_1 (constantI S1 32 8191#32)))))
        (constantI S_ 1 1#1) reducesTo_S9216x1_S9216_d1 h_S_))
    (Host.gather gather_S8192x256_S9216x1_S9216x256_1_0_n_n_0_1_1256 C s)
    (broadcastInDim S9216x256 ![] bcast_S_S9216x256 (constant S_ .f32 0x7FC00000#32))

/-- The norm of every row, as a column. -/
def rowNorms (v : FVec Ideal S9216x256 .f32) : FVec Ideal S9216x1 .f32 :=
  Host.sqrt
    (broadcastInDim S9216x1 ![0] bcast_S9216_S9216x1_0
      (Host.reduceAdd (mulf v v) (constant S_ .f32 0x00000000#32) reducesTo_S9216x256_S9216_d1 h_S_))

/-- The encoded rows moved by the random rows scaled to the residuals' norms. -/
def moved (e t r : FVec Ideal S9216x256 .f32) : FVec Ideal S9216x256 .f32 :=
  addf e
    (mulf
      (broadcastInDim S9216x256 ![0, 1] bcast_S9216x1_S9216x256_0_1
        (Host.divf (rowNorms (subf e t))
          (addf (rowNorms r) (broadcastInDim S9216x1 ![] bcast_S_S9216x1 (constant S_ .f32 0x2B8CBCCC#32)))))
      r)

/-- The decoded array. -/
def decoded (q : FVec Ideal S9216x256 .f32) (W : FVec Ideal S768x256 .f32) (b : FVec Ideal S768 .f32) :
    FVec Ideal S16x768x576 .f32 :=
  transpose S16x768x576 [0, 2, 1]
    (addf
      (Host.dotGeneral dot_S16x576x256_S256x768_S16x576x768_2_0_01_1_n_n none
        (shapeCast S16x576x256 q shapeCasts_S9216x256_S16x576x256)
        (transpose S256x768 [1, 0] W transposes_S768x256_S256x768_1_0))
      (broadcastInDim S16x576x768 ![0, 1, 2] bcast_S1x1x768_S16x576x768_0_1_2
        (broadcastInDim S1x1x768 ![2] bcast_S768_S1x1x768_2 b)))
    transposes_S16x576x768_S16x768x576_0_2_1

/-- The reference's result as a function of its arguments. -/
def result (X : FVec Ideal S16x768x576 .f32) (C : FVec Ideal S8192x256 .f32) (Wi : FVec Ideal S256x768 .f32)
    (bi : FVec Ideal S256 .f32) (Wo : FVec Ideal S768x256 .f32) (bo : FVec Ideal S768 .f32)
    (R : FVec Ideal S9216x256 .f32) : FVec Ideal S16x768x576 .f32 :=
  decoded
    (moved (encoded X Wi bi) (taken C (rowNumbers (choice (distances (encoded X Wi bi) C)))) R) Wo bo

/-- The number of row `p` of batch `b` among all rows. -/
abbrev row (b : Fin 16) (p : Fin 576) : Fin 9216 := ⟨(b : ℕ) * 576 + p, by omega⟩

/-- The encoded array at row `p` of batch `b`. -/
theorem encoded_at (X : FVec Ideal S16x768x576 .f32) (W : FVec Ideal S256x768 .f32) (bi : FVec Ideal S256 .f32)
    (b : Fin 16) (p : Fin 576) (e : Fin 256) :
    encoded X W bi (ix2 (row b p) e)
      = encode (fun d => X (ix3 b d p)) (fun e d => W (ix2 e d)) (fun e => bi (ix1 e)) e := by
  have hb : (⟨((b : ℕ) * 576 + p) / 576, by omega⟩ : Fin 16) = b := Fin.ext (by show ((b : ℕ) * 576 + p) / 576 = b; omega)
  have hp : (⟨((b : ℕ) * 576 + p) % 576, by omega⟩ : Fin 576) = p := Fin.ext (by show ((b : ℕ) * 576 + p) % 576 = p; omega)
  have hx : ∀ d : Fin 768, X (ix3 ⟨((b : ℕ) * 576 + p) / 576, by omega⟩ d ⟨((b : ℕ) * 576 + p) % 576, by omega⟩)
      = X (ix3 b d p) := fun d => by rw [hb, hp]
  pointwise [encoded, encode]
  exact congrArg (· + bi (ix1 e)) (Finset.sum_congr rfl fun d _ => congrArg (· * W (ix2 e d)) (hx d))

/-- The distance array at a row and a codeword. -/
theorem distances_at (e : FVec Ideal S9216x256 .f32) (C : FVec Ideal S8192x256 .f32) (i : Fin 9216) (k : Fin 8192) :
    distances e C (ix2 i k) = distance (fun j => e (ix2 i j)) (fun j => C (ix2 k j)) := by
  pointwise [distances, distance]

/-- The chosen number is that of a codeword at least distance. -/
theorem choice_at (D : FVec Ideal S9216x8192 .f32) (i : Fin 9216) :
    ∃ k : Fin 8192, choice D (ix1 i) = BitVec.ofNat 32 (k : ℕ) ∧ ∀ k' : Fin 8192, D (ix2 i k) ≤ D (ix2 i k') :=
  Argmin.rowChoice_at (by norm_num) reducesTo_S9216x8192_S9216_d1 D i

/-- The word of a codeword's number, read as a signed number. -/
theorem toInt_number (k : Fin 8192) : (BitVec.ofNat 32 (k : ℕ)).toInt = (k : ℕ) := by
  have hn : (BitVec.ofNat 32 (k : ℕ)).toNat = k := by rw [BitVec.toNat_ofNat]; omega
  rw [BitVec.toInt_eq_toNat_of_lt (by omega), hn]

/-- A number inside the codebook is its own row number. -/
theorem rowNumbers_at (s : IVec S9216 32) (i : Fin 9216) (k : Fin 8192) (h : s (ix1 i) = BitVec.ofNat 32 (k : ℕ)) :
    rowNumbers s (ix2 i 0) = BitVec.ofNat 32 (k : ℕ) := by
  have hk := k.isLt
  have hlt : IntOp.cmpi .slt (BitVec.ofNat 32 (k : ℕ)) 0#32 = 0#1 := by
    have hn : ¬ ((k : ℕ) : ℤ) < 0 := by omega
    simp only [IntOp.cmpi, BitVec.slt, toInt_number k, BitVec.toInt_zero, hn, decide_false]
    rfl
  pointwise [rowNumbers]
  rw [h, hlt]
  rfl

/-- The row taken at a number inside the codebook is the codebook's row of that number. -/
theorem taken_at (C : FVec Ideal S8192x256 .f32) (s : IVec S9216x1 32) (i : Fin 9216) (k : Fin 8192)
    (h : s (ix2 i 0) = BitVec.ofNat 32 (k : ℕ)) (e : Fin 256) : taken C s (ix2 i e) = C (ix2 k e) := by
  have hk := k.isLt
  have hge : IntOp.cmpi .sge (BitVec.ofNat 32 (k : ℕ)) 0#32 = 1#1 := by
    simp [IntOp.cmpi, BitVec.sle, toInt_number k]
  have hle : IntOp.cmpi .sle (BitVec.ofNat 32 (k : ℕ)) 8191#32 = 1#1 := by
    have h8 : (8191#32).toInt = 8191 := by decide
    have hn : ((k : ℕ) : ℤ) ≤ 8191 := by omega
    simp only [IntOp.cmpi, BitVec.sle, toInt_number k, h8, hn, decide_true]
    rfl
  have hg : Host.gather gather_S8192x256_S9216x1_S9216x256_1_0_n_n_0_1_1256 C s (ix2 i e) = C (ix2 k e) :=
    Routing.gather_row gather_S8192x256_S9216x1_S9216x256_1_0_n_n_0_1_1256 rfl rfl rfl rfl rfl C s i e k h (by norm_num)
  have hmask : ∀ x : Fin 1, IntOp.andi (IntOp.cmpi .sge (s (ix2 i x)) 0#32) (IntOp.cmpi .sle (s (ix2 i x)) 8191#32) = 1#1 :=
    fun x => by
      obtain rfl : x = 0 := Subsingleton.elim _ _
      rw [h, hge, hle]; rfl
  pointwise [taken]
  rw [hg]
  simp only [hmask]
  rfl

/-- The moved rows at an index: the encoded entry plus the scaled random entry. -/
theorem moved_at (e t r : FVec Ideal S9216x256 .f32) (i : Fin 9216) (j : Fin 256) :
    moved e t r (ix2 i j) = e (ix2 i j)
      + Ideal.div (Ideal.sqrt (Nearest.residual (fun j => e (ix2 i j)) (fun j => t (ix2 i j))))
          (Ideal.sqrt (∑ l, r (ix2 i l) * r (ix2 i l)) + Ideal.ofBits .f32 0x2B8CBCCC#32) * r (ix2 i j) := by
  pointwise [moved, rowNorms, Nearest.residual]

/-- The decoded array at an index: the moved row times a row of the decoder's weights, plus the bias. -/
theorem decoded_at (q : FVec Ideal S9216x256 .f32) (W : FVec Ideal S768x256 .f32) (bo : FVec Ideal S768 .f32)
    (b : Fin 16) (d : Fin 768) (p : Fin 576) :
    decoded q W bo (ix3 b d p) = ∑ j, q (ix2 (row b p) j) * W (ix2 d j) + bo (ix1 d) := by
  pointwise [decoded]

/-- THE REFERENCE'S RESULT AT AN INDEX: the decoded entry whose residual is taken at a codeword of least distance. -/
theorem result_at (X : FVec Ideal S16x768x576 .f32) (C : FVec Ideal S8192x256 .f32) (Wi : FVec Ideal S256x768 .f32)
    (bi : FVec Ideal S256 .f32) (Wo : FVec Ideal S768x256 .f32) (bo : FVec Ideal S768 .f32)
    (R : FVec Ideal S9216x256 .f32) (b : Fin 16) (d : Fin 768) (p : Fin 576) (q : Fin 256 → EReal)
    (hq : q = encode (fun d => X (ix3 b d p)) (fun e d => Wi (ix2 e d)) (fun e => bi (ix1 e))) :
    ∃ k : Fin 8192, (∀ k' : Fin 8192, distance q (fun j => C (ix2 k j)) ≤ distance q (fun j => C (ix2 k' j)))
      ∧ result X C Wi bi Wo bo R (ix3 b d p)
        = decode (Nearest.residual q fun j => C (ix2 k j)) q (fun j => R (ix2 (row b p) j)) (fun j => Wo (ix2 d j)) (bo (ix1 d)) := by
  have he : (fun j => encoded X Wi bi (ix2 (row b p) j)) = q := by
    rw [hq]; exact funext fun j => encoded_at X Wi bi b p j
  obtain ⟨k, hk, hmin⟩ := choice_at (distances (encoded X Wi bi) C) (row b p)
  refine ⟨k, fun k' => ?_, ?_⟩
  · have h := hmin k'
    rw [distances_at, distances_at, he] at h
    exact h
  · unfold result decode
    rw [decoded_at]
    simp only [moved_at]
    rw [he, show (fun j => taken C (rowNumbers (choice (distances (encoded X Wi bi) C))) (ix2 (row b p) j))
      = fun j => C (ix2 k j) from funext fun j => taken_at C _ _ k (rowNumbers_at _ _ k hk) j]
    simp only [← he]

end Cert.ReferenceIdeal.Value

end
-- ==== Proof.ReferenceRun.lean ====
/- Every run of the reference ends with its result array at the term of `Proof/Reference.lean` over the arguments. -/
module

public import proofs.«01_k».proof.Proof.Reference
public import Idealize.ShloMosaic.Lib.Claim

@[expose] public section

set_option maxRecDepth 16384

noncomputable section

namespace Cert.ReferenceIdeal.Value

open Idealize.ShloMosaic Idealize.ShloMosaic.TcCoe Idealize.SL.Sem
open Cert.ReferenceIdeal

set_option maxHeartbeats 1600000 in
/-- THE REFERENCE'S RUN: the result array is `result` of the argument arrays, which end unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v45)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  hlo_run
  simp only [StableHlo.TRef.ofBuf_toBuf]
  rfl

/-- Every run of the reference ends with its arguments unchanged and every counter at zero. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2, sem_eq_zero_of_no_sems (by decide) r.2⟩) (run m g)

end Cert.ReferenceIdeal.Value

end
-- ==== Proof.Finite.lean ====
/- What the precondition gives: every entry of the input array, the codebook and the encoder's weights and bias is a real
   number. -/
module

public import proofs.«01_k».proof.Proof.Gen.Pre_finite
public import proofs.«01_k».proof.Proof.Nearest
public import Idealize.ShloMosaic.Lib.ReduceAll
public import Idealize.ShloMosaic.Lib.Pointwise

@[expose] public section

set_option maxRecDepth 16384

noncomputable section

namespace Cert.Pre_finite.Real

open Idealize.ShloMosaic Cert.Pre_finite Cert.Pre_finite.Facts

/-- A value whose absolute value is below infinity is a real number. -/
theorem real_of_abs_lt (x : EReal) (h : Ideal.cmp .olt (max x (-x)) (Ideal.ofBits .f32 0x7F800000#32) = 1#1) :
    ∃ v : ℝ, x = v := by
  rw [Nearest.ofBits_top] at h
  have hlt : max x (-x) < ⊤ := by
    by_contra hn
    simp [Ideal.cmp, hn] at h
  rw [max_lt_iff] at hlt
  refine ⟨x.toReal, (EReal.coe_toReal hlt.1.ne fun hb => ?_).symm⟩
  rw [hb] at hlt
  simp at hlt

/-- An array whose entries' absolute values all compare below infinity holds real numbers. -/
theorem real_of_all {s : Shape} {axes : List (Fin s.rank)} (x : FVec Ideal s .f32)
    (hb : S_.BroadcastsInDim s (![] : Fin 0 → Fin s.rank)) (h : s.ReducesTo axes S_) (hu : 0 < S_.numel)
    (e : Host.reduce IntOp.andi
      (cmpf .olt (Host.absf x) (broadcastInDim s ![] hb (constant (F := Ideal) S_ .f32 0x7F800000#32)))
      (constantI S_ 1 1#1) h hu (Shape.Idx.first hu) = 1#1) (i : s.Idx) : ∃ v : ℝ, x i = v :=
  real_of_abs_lt (x i) (Host.reduce_andi_all _ _ h hu _ e i)

/-- THE PRECONDITION READ: all entries of the four arrays are real numbers. -/
theorem entries (X : FVec Ideal S16x768x576 .f32) (C : FVec Ideal S8192x256 .f32) (W : FVec Ideal S256x768 .f32)
    (b : FVec Ideal S256 .f32) (Wo : FVec Ideal S768x256 .f32) (bo : FVec Ideal S768 .f32) (R : FVec Ideal S9216x256 .f32)
    (h : fn (F := Ideal) X C W b Wo bo R = fun _ => 1#1) :
    (∀ i, ∃ v : ℝ, X i = v) ∧ (∀ i, ∃ v : ℝ, C i = v) ∧ (∀ i, ∃ v : ℝ, W i = v) ∧ ∀ i, ∃ v : ℝ, b i = v := by
  have h0 := congrFun h (Shape.Idx.first h_S_)
  obtain ⟨h1, hb⟩ := IntOp.andi_eq_one.mp h0
  obtain ⟨h2, hW⟩ := IntOp.andi_eq_one.mp h1
  obtain ⟨hX, hC⟩ := IntOp.andi_eq_one.mp h2
  exact ⟨real_of_all X _ _ _ hX, real_of_all C _ _ _ hC, real_of_all W _ _ _ hW, real_of_all b _ _ _ hb⟩

end Cert.Pre_finite.Real

end
-- ==== Proof.Equation.lean ====
/- The kernel and the reference agree at the ideal real numbers, entry by entry, for arguments the precondition admits. -/
module

public import proofs.«01_k».proof.Defs
public import proofs.«01_k».proof.Proof.KernelArray
public import proofs.«01_k».proof.Proof.ReferenceRun
public import proofs.«01_k».proof.Proof.Finite

@[expose] public section

set_option maxRecDepth 16384

noncomputable section

namespace Cert.Equation

open Idealize.ShloMosaic Idealize.ShloMosaic.TcCoe Idealize.SL.Sem Cert.Nearest

/-- One entry: where the input, the codebook and the encoder hold real numbers, the least score over the codebook gives
    the residual of the codeword the reference chooses. -/
theorem entry (X : FVec Ideal Cert.KernelIdeal.S16x768x576 .f32) (C : FVec Ideal Cert.KernelIdeal.S8192x256 .f32)
    (Wi : FVec Ideal Cert.KernelIdeal.S256x768 .f32) (bi : FVec Ideal Cert.KernelIdeal.S256 .f32)
    (Wo : FVec Ideal Cert.KernelIdeal.S768x256 .f32) (bo : FVec Ideal Cert.KernelIdeal.S768 .f32)
    (R : FVec Ideal Cert.KernelIdeal.S9216x256 .f32)
    (hX : ∀ i, ∃ v : ℝ, X i = v) (hC : ∀ i, ∃ v : ℝ, C i = v) (hW : ∀ i, ∃ v : ℝ, Wi i = v) (hb : ∀ i, ∃ v : ℝ, bi i = v)
    (b : Fin 16) (d : Fin 768) (p : Fin 576) :
    Cert.KernelIdeal.Block.array X C Wi bi Wo bo R b p d
      = Cert.ReferenceIdeal.Value.result X C Wi bi Wo bo R (ix3 b d p) := by
  obtain ⟨k, hk, h⟩ := Cert.ReferenceIdeal.Value.result_at X C Wi bi Wo bo R b d p
    (Cert.KernelIdeal.Block.encodedRow X Wi bi b p) rfl
  rw [h]
  unfold Cert.KernelIdeal.Block.array
  rw [leastResidual_eq (Cert.KernelIdeal.Block.encodedRow X Wi bi b p) (fun k j => C (ix2 k j))
    (fun e => encode_real _ _ _ (fun _ => hX _) (fun _ _ => hW _) (fun _ => hb _) e) (fun _ _ => hC _) k hk]

/-- THE EQUATION: the kernel's result array is the reference's, over one memory's arguments. -/
theorem result_eq (m : (ℓ : Loc Cert.KernelIdeal.nD Cert.KernelIdeal.τ Cert.KernelIdeal.sig) → Buf (Elt Ideal) ℓ)
    (hpre : Cert.Pre_KernelIdeal_finite m) (c : Dev Cert.KernelIdeal.nD) :
    Cert.ReferenceIdeal.Value.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Block.result m c := by
  obtain ⟨hX, hC, hW, hb⟩ := Cert.Pre_finite.Real.entries _ _ _ _ _ _ _ (hpre c)
  refine funext fun i => ?_
  obtain ⟨b, d, p, rfl⟩ : ∃ (b : Fin 16) (d : Fin 768) (p : Fin 576), i = ix3 b d p := ⟨i 0, i 1, i 2, eq_ix3 i⟩
  exact ((Cert.KernelIdeal.Block.result_at m c b d p).trans (entry _ _ _ _ _ _ _ hX hC hW hb b d p)).symm

set_option maxHeartbeats 1600000 in
/-- The value claim: both programs run and end with equal results, their arguments unchanged. -/
theorem algebraic : Cert.algebraic_KernelIdeal_ReferenceIdeal_pre_finite := by
  intro m g m' g' hpre hagree
  refine ⟨fun c => Cert.KernelIdeal.Block.result m c, Cert.KernelIdeal.Block.run m g, ?_⟩
  refine (θ_run _ _ _).mono (fun r h c => ⟨(h c).1.trans ?_, (h c).2⟩) (Cert.ReferenceIdeal.Value.run m' g')
  obtain ⟨h0, h1, h2, h3, h4, h5, h6⟩ := hagree c
  rw [h0, h1, h2, h3, h4, h5, h6]
  exact result_eq m hpre c

end Cert.Equation

end
-- ==== Proof.lean ====
/- The claims of this proof, assembled: the runs of the three programs, the idealized kernel against the kernel, and the
   idealized kernel's result against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Equation
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- All claims. -/
theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => Cert.ReferenceIdeal.Value.frame m g,
  fun m g _ => Cert.ReferenceIdeal.Value.frame m g,
  trivial,
  Cert.Equation.algebraic⟩

end Cert.Proof

end
